-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4096 : Shape := ⟨3, ![1, 8192, 4096]⟩
abbrev S1x8192x1 : Shape := ⟨3, ![1, 8192, 1]⟩
abbrev S8192x4096 : Shape := ⟨2, ![8192, 4096]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x4096 : Shape := ⟨2, ![1024, 4096]⟩
abbrev S1024x1 : Shape := ⟨2, ![1024, 1]⟩
abbrev S1x1024 : Shape := ⟨2, ![1, 1024]⟩
abbrev S1024x1024 : Shape := ⟨2, ![1024, 1024]⟩
abbrev S1x8192x8192 : Shape := ⟨3, ![1, 8192, 8192]⟩

abbrev nBuf : Space → Nat
  | .hbm => 11
  | .vmem => 12
  | .smem => 0
  | _ => 0

abbrev bufTy : (tb : Table) → Fin (tcTables nBuf tb) → BufTy
  | .hbm, ⟨0, _⟩ => ⟨S1x8192x4096, .fp8e4m3⟩
  | .hbm, ⟨1, _⟩ => ⟨S1x8192x1, .f32⟩
  | .hbm, ⟨2, _⟩ => ⟨S8192x4096, .fp8e4m3⟩
  | .hbm, ⟨3, _⟩ => ⟨S8192, .f32⟩
  | .hbm, ⟨4, _⟩ => ⟨S8192, .bf16⟩
  | .hbm, ⟨5, _⟩ => ⟨S8192x4096, .fp8e4m3⟩
  | .hbm, ⟨6, _⟩ => ⟨S8192x1, .f32⟩
  | .hbm, ⟨7, _⟩ => ⟨S1x8192, .f32⟩
  | .hbm, ⟨8, _⟩ => ⟨S1x8192, .bf16⟩
  | .hbm, ⟨9, _⟩ => ⟨S8192x8192, .bf16⟩
  | .hbm, ⟨10, _⟩ => ⟨S1x8192x8192, .bf16⟩
  | .local _ .vmem, ⟨0, _⟩ => ⟨S1024x4096, .fp8e4m3⟩
  | .local _ .vmem, ⟨1, _⟩ => ⟨S1024x4096, .fp8e4m3⟩
  | .local _ .vmem, ⟨2, _⟩ => ⟨S1024x1, .f32⟩
  | .local _ .vmem, ⟨3, _⟩ => ⟨S1024x1, .f32⟩
  | .local _ .vmem, ⟨4, _⟩ => ⟨S1024x4096, .fp8e4m3⟩
  | .local _ .vmem, ⟨5, _⟩ => ⟨S1024x4096, .fp8e4m3⟩
  | .local _ .vmem, ⟨6, _⟩ => ⟨S1x1024, .f32⟩
  | .local _ .vmem, ⟨7, _⟩ => ⟨S1x1024, .f32⟩
  | .local _ .vmem, ⟨8, _⟩ => ⟨S1x1024, .bf16⟩
  | .local _ .vmem, ⟨9, _⟩ => ⟨S1x1024, .bf16⟩
  | .local _ .vmem, ⟨10, _⟩ => ⟨S1024x1024, .bf16⟩
  | .local _ .vmem, ⟨11, _⟩ => ⟨S1024x1024, .bf16⟩
  | _, _ => ⟨S1x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1x8192x4096 : Shape := ⟨3, ![1, 8192, 4096]⟩
abbrev S1x8192x1 : Shape := ⟨3, ![1, 8192, 1]⟩
abbrev S8192x4096 : Shape := ⟨2, ![8192, 4096]⟩
abbrev S8192 : Shape := ⟨1, ![8192]⟩
abbrev S1x8192x8192 : Shape := ⟨3, ![1, 8192, 8192]⟩
abbrev S1x1x8192 : Shape := ⟨3, ![1, 1, 8192]⟩

abbrev nBuf : Space → Nat
  | .hbm => 6
  | .vmem => 6
  | .smem => 0
  | _ => 0

abbrev bufTy : (tb : Table) → Fin (tcTables nBuf tb) → BufTy
  | .hbm, ⟨0, _⟩ => ⟨S1x8192x4096, .fp8e4m3⟩
  | .hbm, ⟨1, _⟩ => ⟨S1x8192x1, .f32⟩
  | .hbm, ⟨2, _⟩ => ⟨S8192x4096, .fp8e4m3⟩
  | .hbm, ⟨3, _⟩ => ⟨S8192, .f32⟩
  | .hbm, ⟨4, _⟩ => ⟨S8192, .bf16⟩
  | .hbm, ⟨5, _⟩ => ⟨S1x8192x8192, .bf16⟩
  | .local _ .vmem, ⟨0, _⟩ => ⟨S1x8192x4096, .fp8e4m3⟩
  | .local _ .vmem, ⟨1, _⟩ => ⟨S1x8192x1, .f32⟩
  | .local _ .vmem, ⟨2, _⟩ => ⟨S8192x4096, .fp8e4m3⟩
  | .local _ .vmem, ⟨3, _⟩ => ⟨S8192, .f32⟩
  | .local _ .vmem, ⟨4, _⟩ => ⟨S8192, .bf16⟩
  | .local _ .vmem, ⟨5, _⟩ => ⟨S1x8192x8192, .bf16⟩
  | _, _ => ⟨S1x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/-
  The function that both programs compute over the extended reals: a linear layer with one scale per token (row of
  `x`), one scale per output channel (row of `w`) and a bias per channel.
-/
module

public import Idealize.ShloMosaic.Lib.Pointwise
public import Idealize.ShloMosaic.PureOps.Ideal

@[expose] public section

noncomputable section

namespace Cert.LinearSpec

open Idealize.ShloMosaic

/-- The linear layer at batch `i 0`, token `i 1` and channel `i 2`: the product of the token's codes with the channel's
    codes, summed over the 4096 features, times the token's scale, times the channel's scale, plus the channel's bias. -/
def linear (x : (⟨3, ![1, 8192, 4096]⟩ : Shape).Idx → EReal) (xs : (⟨3, ![1, 8192, 1]⟩ : Shape).Idx → EReal)
    (w : (⟨2, ![8192, 4096]⟩ : Shape).Idx → EReal) (ws b : (⟨1, ![8192]⟩ : Shape).Idx → EReal) :
    (⟨3, ![1, 8192, 8192]⟩ : Shape).Idx → EReal :=
  fun i => (∑ k : Fin 4096, x (ix3 (0 : Fin 1) (i 1 : Fin 8192) k) * w (ix2 (i 2 : Fin 8192) k))
    * xs (ix3 (0 : Fin 1) (i 1 : Fin 8192) (0 : Fin 1)) * ws (ix1 (i 2 : Fin 8192)) + b (ix1 (i 2 : Fin 8192))

end Cert.LinearSpec

end
-- ==== Proof.RefValue.lean ====
/-
  What the reference computes: its one store's payload is `LinearSpec.linear` of its arguments.
-/
module

public import proofs.«01_k».proof.Proof.Spec
public import proofs.«01_k».proof.Proof.Gen.ReferenceIdeal
public import proofs.«01_k».proof.Proof.Gen.ReferenceIdeal.Skeleton

@[expose] public section

noncomputable section

namespace Cert.RefValue

open Idealize.ShloMosaic Cert.ReferenceIdeal Cert.ReferenceIdeal.Gen

/-- The reference's payload over whole arrays is the linear layer. -/
theorem pay_eq (x : Vec Ideal S1x8192x4096 .fp8e4m3) (xs : Vec Ideal S1x8192x1 .f32) (w : Vec Ideal S8192x4096 .fp8e4m3)
    (ws : Vec Ideal S8192 .f32) (b : Vec Ideal S8192 .bf16) :
    k0_pay1 x w xs ws b = LinearSpec.linear x xs w ws b := by
  funext i
  obtain ⟨r, n, rfl⟩ : ∃ r n : Fin 8192, i = ix3 (0 : Fin 1) r n :=
    ⟨i 1, i 2, (eq_ix3 i).trans (congrArg (fun a : Fin 1 => (ix3 a (i 1) (i 2) : S1x8192x8192.Idx)) (Subsingleton.elim _ _))⟩
  pointwise [k0_pay1, LinearSpec.linear]

end Cert.RefValue

end
-- ==== Proof.BlockValue.lean ====
/-
  What the kernel's body computes from one grid point's input blocks, read at a row and a column of the output block.
-/
module

public import proofs.«01_k».proof.Proof.Spec
public import proofs.«01_k».proof.Proof.Gen.KernelIdeal
public import proofs.«01_k».proof.Proof.Gen.KernelIdeal.Frame

@[expose] public section

noncomputable section

namespace Cert.BlockValue

open Idealize.ShloMosaic Cert.KernelIdeal Cert.KernelIdeal.Gen

/-- The body's payload at row `p` and column `q` of the output block. -/
theorem pay_apply (x : Vec Ideal S1024x4096 .fp8e4m3) (xs : Vec Ideal S1024x1 .f32) (w : Vec Ideal S1024x4096 .fp8e4m3)
    (ws : Vec Ideal S1x1024 .f32) (b : Vec Ideal S1x1024 .bf16) (p q : Fin 1024) :
    k0_pay1 x w xs ws b (ix2 p q)
      = (∑ k : Fin 4096, x (ix2 p k) * w (ix2 q k)) * xs (ix2 p (0 : Fin 1)) * ws (ix2 (0 : Fin 1) q)
        + b (ix2 (0 : Fin 1) q) := by
  pointwise [k0_pay1]

end Cert.BlockValue

end
-- ==== Proof.KernelArray.lean ====
/-
  What the pallas_call's result array holds after the run: the 64 blocks that the grid points write back are the blocks
  of ONE function of the region's input arrays, and they cover the array.
-/
module

public import proofs.«01_k».proof.Proof.BlockValue
public import Idealize.ShloMosaic.Lib.Pipeline.Value

@[expose] public section

noncomputable section

namespace Cert.KernelArray

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The result of the pallas_call at token `i 0` and channel `i 1`, from the arrays that it is given: codes and scales
    of the tokens as matrices, scales and bias of the channels as rows. -/
def layer (x : S8192x4096.Idx → EReal) (xs : S8192x1.Idx → EReal) (w : S8192x4096.Idx → EReal)
    (ws b : S1x8192.Idx → EReal) : S8192x8192.Idx → EReal :=
  fun i => (∑ k : Fin 4096, x (ix2 (i 0 : Fin 8192) k) * w (ix2 (i 1 : Fin 8192) k))
    * xs (ix2 (i 0 : Fin 8192) (0 : Fin 1)) * ws (ix2 (0 : Fin 1) (i 1 : Fin 8192)) + b (ix2 (0 : Fin 1) (i 1 : Fin 8192))

/-- `layer` read at row `r`, column `n`. -/
theorem layer_apply (x : S8192x4096.Idx → EReal) (xs : S8192x1.Idx → EReal) (w : S8192x4096.Idx → EReal)
    (ws b : S1x8192.Idx → EReal) (r n : Fin 8192) : layer x xs w ws b (ix2 r n)
    = (∑ k : Fin 4096, x (ix2 r k) * w (ix2 n k)) * xs (ix2 r (0 : Fin 1)) * ws (ix2 (0 : Fin 1) n) + b (ix2 (0 : Fin 1) n) :=
  rfl

/-! ## The blocks' places -/

/-- Where each input window's block lies beside the output's, at every grid point: the tokens' blocks move with the
    output's rows, the channels' with its columns. -/
theorem index_facts : ∀ t : Fin cfg0.N,
    (win0_0.index t (0 : Fin 2) = win0_5.index t (0 : Fin 2) ∧ win0_0.index t (1 : Fin 2) = 0)
    ∧ (win0_1.index t (0 : Fin 2) = win0_5.index t (0 : Fin 2) ∧ win0_1.index t (1 : Fin 2) = 0)
    ∧ (win0_2.index t (0 : Fin 2) = win0_5.index t (1 : Fin 2) ∧ win0_2.index t (1 : Fin 2) = 0)
    ∧ (win0_3.index t (0 : Fin 2) = 0 ∧ win0_3.index t (1 : Fin 2) = win0_5.index t (1 : Fin 2))
    ∧ (win0_4.index t (0 : Fin 2) = 0 ∧ win0_4.index t (1 : Fin 2) = win0_5.index t (1 : Fin 2)) :=
  (by decide +kernel : ∀ t : Fin grid0.N, _)

/-- Every one of the 8 × 8 output blocks is some grid point's. -/
theorem index_onto : ∀ a b : Fin 8, ∃ t : Fin cfg0.N,
    win0_5.index t (0 : Fin 2) = a.val ∧ win0_5.index t (1 : Fin 2) = b.val :=
  (by decide +kernel : ∀ a b : Fin 8, ∃ t : Fin grid0.N, _)

/-- Row `p`, column `q` of point `t`'s output block is the array's row and column so many blocks further on. -/
theorem emb5_val (t : Fin cfg0.N) (p q : Fin 1024) :
    ((((cfg0.win 5).blk t).view.emb (ix2 p q : S1024x1024.Idx) : S8192x8192.Idx) 0).val = win0_5.index t (0 : Fin 2) * 1024 + p.val
    ∧ ((((cfg0.win 5).blk t).view.emb (ix2 p q : S1024x1024.Idx) : S8192x8192.Idx) 1).val = win0_5.index t (1 : Fin 2) * 1024 + q.val := by
  constructor
  · show win0_5.index t (0 : Fin 2) * 1024 + 1 * p.val = _; omega
  · show win0_5.index t (1 : Fin 2) * 1024 + 1 * q.val = _; omega

section Blocks

variable (c : Dev nD) (t : Fin cfg0.N) (p q : Fin 1024)

/-- The array index of row `p`, column `q` of point `t`'s output block. -/
abbrev at5 : S8192x8192.Idx := ((cfg0.win 5).blk t).view.emb (ix2 p q : S1024x1024.Idx)

/-- Row `p` of the token-code block is the array's row of the output index. -/
theorem iblk0_apply (k : Fin 4096) :
    (iblk m c 0 t : S1024x4096.Idx → EReal) (ix2 p k) = (V m c main_v0 : S8192x4096.Idx → EReal) (ix2 (at5 t p q 0 : Fin 8192) k) := by
  obtain ⟨⟨e0, e1⟩, -⟩ := index_facts t
  obtain ⟨h0, -⟩ := emb5_val t p q
  show V m c main_v0 (((cfg0.win 0).blk t).view.emb (ix2 p k : S1024x4096.Idx)) = _
  congr 1
  funext a; apply Fin.ext
  match a with
  | ⟨0, _⟩ => show win0_0.index t (0 : Fin 2) * 1024 + 1 * p.val = (at5 t p q 0).val; rw [h0]; omega
  | ⟨1, _⟩ => show win0_0.index t (1 : Fin 2) * 4096 + 1 * k.val = k.val; omega

/-- Row `p` of the token-scale block is the array's row of the output index. -/
theorem iblk1_apply :
    (iblk m c 1 t : S1024x1.Idx → EReal) (ix2 p (0 : Fin 1)) = (V m c main_v1 : S8192x1.Idx → EReal) (ix2 (at5 t p q 0 : Fin 8192) (0 : Fin 1)) := by
  obtain ⟨-, ⟨e0, e1⟩, -⟩ := index_facts t
  obtain ⟨h0, -⟩ := emb5_val t p q
  show V m c main_v1 (((cfg0.win 1).blk t).view.emb (ix2 p (0 : Fin 1) : S1024x1.Idx)) = _
  congr 1
  funext a; apply Fin.ext
  match a with
  | ⟨0, _⟩ => show win0_1.index t (0 : Fin 2) * 1024 + 1 * p.val = (at5 t p q 0).val; rw [h0]; omega
  | ⟨1, _⟩ => show win0_1.index t (1 : Fin 2) * 1 + 1 * 0 = 0; omega

/-- Row `q` of the channel-code block is the array's row of the output index's column. -/
theorem iblk2_apply (k : Fin 4096) :
    (iblk m c 2 t : S1024x4096.Idx → EReal) (ix2 q k) = (V m c main_arg2 : S8192x4096.Idx → EReal) (ix2 (at5 t p q 1 : Fin 8192) k) := by
  obtain ⟨-, -, ⟨e0, e1⟩, -⟩ := index_facts t
  obtain ⟨-, h1⟩ := emb5_val t p q
  show V m c main_arg2 (((cfg0.win 2).blk t).view.emb (ix2 q k : S1024x4096.Idx)) = _
  congr 1
  funext a; apply Fin.ext
  match a with
  | ⟨0, _⟩ => show win0_2.index t (0 : Fin 2) * 1024 + 1 * q.val = (at5 t p q 1).val; rw [h1]; omega
  | ⟨1, _⟩ => show win0_2.index t (1 : Fin 2) * 4096 + 1 * k.val = k.val; omega

/-- Column `q` of the channel-scale block is the array's column of the output index. -/
theorem iblk3_apply :
    (iblk m c 3 t : S1x1024.Idx → EReal) (ix2 (0 : Fin 1) q) = (V m c main_v2 : S1x8192.Idx → EReal) (ix2 (0 : Fin 1) (at5 t p q 1 : Fin 8192)) := by
  obtain ⟨-, -, -, ⟨e0, e1⟩, -⟩ := index_facts t
  obtain ⟨-, h1⟩ := emb5_val t p q
  show V m c main_v2 (((cfg0.win 3).blk t).view.emb (ix2 (0 : Fin 1) q : S1x1024.Idx)) = _
  congr 1
  funext a; apply Fin.ext
  match a with
  | ⟨0, _⟩ => show win0_3.index t (0 : Fin 2) * 1 + 1 * 0 = 0; omega
  | ⟨1, _⟩ => show win0_3.index t (1 : Fin 2) * 1024 + 1 * q.val = (at5 t p q 1).val; rw [h1]; omega

/-- Column `q` of the bias block is the array's column of the output index. -/
theorem iblk4_apply :
    (iblk m c 4 t : S1x1024.Idx → EReal) (ix2 (0 : Fin 1) q) = (V m c main_v3 : S1x8192.Idx → EReal) (ix2 (0 : Fin 1) (at5 t p q 1 : Fin 8192)) := by
  obtain ⟨-, -, -, -, ⟨e0, e1⟩⟩ := index_facts t
  obtain ⟨-, h1⟩ := emb5_val t p q
  show V m c main_v3 (((cfg0.win 4).blk t).view.emb (ix2 (0 : Fin 1) q : S1x1024.Idx)) = _
  congr 1
  funext a; apply Fin.ext
  match a with
  | ⟨0, _⟩ => show win0_4.index t (0 : Fin 2) * 1 + 1 * 0 = 0; omega
  | ⟨1, _⟩ => show win0_4.index t (1 : Fin 2) * 1024 + 1 * q.val = (at5 t p q 1).val; rw [h1]; omega

end Blocks

/-! ## The array -/

/-- The offsets of a load or store of a whole block are zero. -/
theorem hz2 : (![0, 0] : Fin 2 → Nat) = fun _ => 0 := funext fun a => by fin_cases a <;> rfl

/-- What the body leaves in the output's buffer is its one payload of the whole input blocks. -/
theorem out_eq (x : Vec Ideal S1024x4096 .fp8e4m3) (xs : Vec Ideal S1024x1 .f32) (w : Vec Ideal S1024x4096 .fp8e4m3)
    (ws : Vec Ideal S1x1024 .f32) (b : Vec Ideal S1x1024 .bf16) : out0_5 x xs w ws b = k0_pay1 x w xs ws b := by
  unfold out0_5
  rw [View.canon_unit_zero hz2, View.ld_unit_zero (S := S1024x4096) hz2 _ x, View.ld_unit_zero (S := S1024x4096) hz2 _ w,
    View.ld_unit_zero (S := S1024x1) hz2 _ xs, View.ld_unit_zero (S := S1x1024) hz2 _ ws, View.ld_unit_zero (S := S1x1024) hz2 _ b]

/-- The layer of the arrays as the pallas_call finds them. -/
abbrev G (c : Dev nD) : S8192x8192.Idx → EReal :=
  layer (V m c main_v0) (V m c main_v1) (V m c main_arg2) (V m c main_v2) (V m c main_v3)

/-- What point `t` writes back is its block of the layer. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5, out_eq]
  funext j
  show k0_pay1 (F := Ideal) (iblk m c 0 t) (iblk m c 2 t) (iblk m c 1 t) (iblk m c 3 t) (iblk m c 4 t) (j : S1024x1024.Idx)
    = G m c (((cfg0.win 5).blk t).view.emb (j : S1024x1024.Idx))
  obtain ⟨p, q, rfl⟩ : ∃ p q : Fin 1024, (j : S1024x1024.Idx) = ix2 p q := ⟨j 0, j 1, eq_ix2 j⟩
  rw [BlockValue.pay_apply, iblk1_apply m c t p q, iblk3_apply m c t p q, iblk4_apply m c t p q]
  simp only [iblk0_apply m c t p q, iblk2_apply m c t p q]
  rfl

/-- Every index of the result array lies in some point's block. -/
theorem covered (i : S8192x8192.Idx) :
    ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, e0, e1⟩ := index_onto ⟨(i 0).val / 1024, by omega⟩ ⟨(i 1).val / 1024, by omega⟩
  refine ⟨t, flush0_5 _, ?_⟩
  have h := ((cfg0.win 5).blk t).view.emb_mem_set
    (ix2 (⟨(i 0).val % 1024, by omega⟩ : Fin 1024) (⟨(i 1).val % 1024, by omega⟩ : Fin 1024) : S1024x1024.Idx)
  obtain ⟨h0, h1⟩ := emb5_val t ⟨(i 0).val % 1024, by omega⟩ ⟨(i 1).val % 1024, by omega⟩
  have e : ((cfg0.win 5).blk t).view.emb
      (ix2 (⟨(i 0).val % 1024, by omega⟩ : Fin 1024) (⟨(i 1).val % 1024, by omega⟩ : Fin 1024) : S1024x1024.Idx) = i := by
    funext a; apply Fin.ext
    match a with
    | ⟨0, _⟩ => refine h0.trans ?_; show _ = (i 0).val; rw [e0]; exact Nat.div_add_mod' _ _
    | ⟨1, _⟩ => refine h1.trans ?_; show _ = (i 1).val; rw [e1]; exact Nat.div_add_mod' _ _
  rwa [e] at h

/-- The result array after the run is the layer of the arrays as the pallas_call finds them. -/
theorem final (c : Dev nD) : (dats m 0 c).arrAt 5 cfg0.N = G m c :=
  (dats m 0 c).arrAt_eq_of_cover 5 (G m c) (fun t _ => flushed_eq m c t) covered

end Cert.KernelArray

end
-- ==== Proof.KernelRun.lean ====
/-
  The kernel's run, read: its result is the linear layer of its arguments, and the arguments end as launched.
-/
module

public import proofs.«01_k».proof.Proof.KernelArray
public import proofs.«01_k».proof.Proof.Spec
public import Idealize.ShloMosaic.Lib.ValueLayout

@[expose] public section

noncomputable section

namespace Cert.KernelRun

open Idealize.ShloMosaic Idealize.ShloMosaic.TcCoe Idealize.SL.Sem Cert.KernelIdeal
  Cert.KernelIdeal.Gen
open Idealize.ShloMosaic.Pipeline (Dat)

variable (m : (ℓ : Loc nD τ sig) → Buf (Elt Ideal) ℓ) (ρ : Dev nD → PrngReg)

/-! ## The arrays that the pallas_call is given -/

/-- The token codes: the first argument as a matrix. -/
theorem V_main_v0 (c : Dev nD) : V m c main_v0
    = shapeCast S8192x4096 (m ((c : Thread nD τ).loc main_arg0) : S1x8192x4096.Idx → EReal) shapeCasts_S1x8192x4096_S8192x4096 := by
  show StableHlo.after hostOps0 (fun b => m (c, b)) (Proc.devRef .tc main_v0) = _
  after_results; rfl

/-- The token scales: the second argument as a column. -/
theorem V_main_v1 (c : Dev nD) : V m c main_v1
    = shapeCast S8192x1 (m ((c : Thread nD τ).loc main_arg1) : S1x8192x1.Idx → EReal) shapeCasts_S1x8192x1_S8192x1 := by
  show StableHlo.after hostOps0 (fun b => m (c, b)) (Proc.devRef .tc main_v1) = _
  after_results; rfl

/-- The channel scales: the fourth argument as a row. -/
theorem V_main_v2 (c : Dev nD) : V m c main_v2
    = shapeCast S1x8192 (m ((c : Thread nD τ).loc main_arg3) : S8192.Idx → EReal) shapeCasts_S8192_S1x8192 := by
  show StableHlo.after hostOps0 (fun b => m (c, b)) (Proc.devRef .tc main_v2) = _
  after_results; rfl

/-- The bias: the fifth argument as a row. -/
theorem V_main_v3 (c : Dev nD) : V m c main_v3
    = shapeCast S1x8192 (m ((c : Thread nD τ).loc main_arg4) : S8192.Idx → EReal) shapeCasts_S8192_S1x8192 := by
  show StableHlo.after hostOps0 (fun b => m (c, b)) (Proc.devRef .tc main_v3) = _
  after_results; rfl

/-! ## The result -/

/-- The linear layer of the arguments that core `c` is launched with. -/
abbrev value (c : Dev nD) : S1x8192x8192.Idx → EReal :=
  LinearSpec.linear (m ((c : Thread nD τ).loc main_arg0)) (m ((c : Thread nD τ).loc main_arg1))
    (m ((c : Thread nD τ).loc main_arg2)) (m ((c : Thread nD τ).loc main_arg3)) (m ((c : Thread nD τ).loc main_arg4))

/-- The pallas_call's result, with the batch axis of size one put back, is the linear layer of the arguments. -/
theorem cast_G (c : Dev nD) :
    shapeCast S1x8192x8192 (KernelArray.G m c) shapeCasts_S8192x8192_S1x8192x8192 = value m c := by
  funext i
  obtain ⟨r, n, rfl⟩ : ∃ r n : Fin 8192, i = ix3 (0 : Fin 1) r n :=
    ⟨i 1, i 2, (eq_ix3 i).trans (congrArg (fun a : Fin 1 => (ix3 a (i 1) (i 2) : S1x8192x8192.Idx)) (Subsingleton.elim _ _))⟩
  refine (ValueIdx.shapeCast_ab_1ab_apply (KernelArray.G m c) shapeCasts_S8192x8192_S1x8192x8192 (0 : Fin 1) r n).trans ?_
  have h0 (k : Fin 4096) : (V m c main_v0 : S8192x4096.Idx → EReal) (ix2 r k)
      = (m ((c : Thread nD τ).loc main_arg0) : S1x8192x4096.Idx → EReal) (ix3 (0 : Fin 1) r k) := by
    rw [V_main_v0]; exact ValueIdx.shapeCast_1ab_ab_apply _ shapeCasts_S1x8192x4096_S8192x4096 r k
  have h1 : (V m c main_v1 : S8192x1.Idx → EReal) (ix2 r (0 : Fin 1))
      = (m ((c : Thread nD τ).loc main_arg1) : S1x8192x1.Idx → EReal) (ix3 (0 : Fin 1) r (0 : Fin 1)) := by
    rw [V_main_v1]; exact ValueIdx.shapeCast_1ab_ab_apply _ shapeCasts_S1x8192x1_S8192x1 r (0 : Fin 1)
  have h2 : (V m c main_v2 : S1x8192.Idx → EReal) (ix2 (0 : Fin 1) n)
      = (m ((c : Thread nD τ).loc main_arg3) : S8192.Idx → EReal) (ix1 n) := by
    rw [V_main_v2]; exact ValueIdx.shapeCast_a_1a_apply _ shapeCasts_S8192_S1x8192 (0 : Fin 1) n
  have h3 : (V m c main_v3 : S1x8192.Idx → EReal) (ix2 (0 : Fin 1) n)
      = (m ((c : Thread nD τ).loc main_arg4) : S8192.Idx → EReal) (ix1 n) := by
    rw [V_main_v3]; exact ValueIdx.shapeCast_a_1a_apply _ shapeCasts_S8192_S1x8192 (0 : Fin 1) n
  refine (KernelArray.layer_apply _ _ _ _ _ r n).trans ?_
  rw [h1, h2, h3, V_main_arg2]
  simp only [h0]
  rfl

/-- What the last reshape leaves in the result buffer. -/
theorem tail_main_v5 (c : Dev nD) :
    Pipeline.afterTail₀ cfgs (dats m) 0 (V0 m) [hostOps1] c main_v5 = value m c := by
  have h : Pipeline.withArrays spec0 c (V0 m c) (fun w => (dats m 0 c).arrAt w cfg0.N) (Proc.devRef .tc main_v4) = KernelArray.G m c :=
    (Pipeline.withArrays_arr spec0 launch0.win.arr_inj c (V0 m c) (fun w => (dats m 0 c).arrAt w cfg0.N) 5).trans (KernelArray.final m c)
  rw [← cast_G]
  unfold Pipeline.afterTail₀
  show StableHlo.after hostOps1 (Pipeline.withArrays spec0 c (V0 m c) fun w => (dats m 0 c).arrAt w cfg0.N) (Proc.devRef .tc main_v5) = _
  after_results
  rw [← h]
  rfl

/-- Every run of the kernel ends with its result at the linear layer of its arguments and the arguments as launched. -/
theorem run : θ_run defs (onTc (τ := τ) (main (F := Ideal))) ⟨m, fun _ => 0, ρ⟩ fun r => ∀ c : Dev nD,
      r.2.mem ((c : Thread nD τ).loc main_v5) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (tail_main_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelRun

end
-- ==== Proof.lean ====
/-
  The certificate: the tiled fp8 linear layer and the whole-array formula terminate, keep their arguments, and compute
  the same function over the extended reals. Spec states that function; RefValue reads it off the reference; BlockValue,
  KernelArray and KernelRun read it off the kernel.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.RefValue
public import proofs.«01_k».proof.Proof.KernelRun
public import Idealize.ShloMosaic.Adequacy
public import Idealize.ShloMosaic.Init

@[expose] public section

noncomputable section

namespace Cert.Proof

open Idealize.ShloMosaic Idealize.SL.Sem

/-- From memories that agree on the five arguments, the kernel's run and the reference's end with the same result on every
    core: the linear layer of the arguments. -/
theorem algebraic : Cert.algebraic_KernelIdeal_ReferenceIdeal := by
  intro m ρ m' ρ' _ hag
  refine ⟨fun c => KernelRun.value m c, KernelRun.run m ρ, ?_⟩
  refine (θ_run _ _ _).mono (fun r h c => ⟨(h c).1.trans ?_, (h c).2⟩) (ReferenceIdeal.Value.run m' ρ')
  obtain ⟨h0, h1, h2, h3, h4⟩ := hag c
  rw [h0, h1, h2, h3, h4]
  exact RefValue.pay_eq _ _ _ _ _

/-- The certificate: the three programs terminate and keep their arguments, the idealized kernel is the kernel's own program,
    and it computes what the reference computes. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
